-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_stride_defined [hPre_stride_defined : Cert.Pre_stride_defined.Facts] (m : (ℓ : Loc Cert.KernelIdeal.nD Cert.KernelIdeal.τ Cert.KernelIdeal.sig) → Buf (Elt Ideal) ℓ) : Prop :=
  ∀ c : Dev Cert.KernelIdeal.nD,
    (Cert.Pre_stride_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_stride_defined [hPre_stride_defined : Cert.Pre_stride_defined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stride_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stride_defined [hKernelIdeal : Cert.KernelIdeal.Facts] [hPre_stride_defined : Cert.Pre_stride_defined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stride_defined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stride_defined [hReferenceIdeal : Cert.ReferenceIdeal.Facts] [hPre_stride_defined : Cert.Pre_stride_defined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stride_defined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_stride_defined [hKernelIdeal : Cert.KernelIdeal.Facts] [hReferenceIdeal : Cert.ReferenceIdeal.Facts] [hPre_stride_defined : Cert.Pre_stride_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stride_defined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_stride_defined : Cert.Pre_stride_defined.Facts),
    quiescent_Kernel (hKernel := hKernel)
    ∧ quiescent_KernelIdeal (hKernelIdeal := hKernelIdeal)
    ∧ quiescent_KernelIdeal_pre_stride_defined (hKernelIdeal := hKernelIdeal) (hPre_stride_defined := hPre_stride_defined)
    ∧ quiescent_ReferenceIdeal (hReferenceIdeal := hReferenceIdeal)
    ∧ quiescent_ReferenceIdeal_pre_stride_defined (hReferenceIdeal := hReferenceIdeal) (hPre_stride_defined := hPre_stride_defined)
    ∧ preserves_Kernel_KernelIdeal
    ∧ algebraic_KernelIdeal_ReferenceIdeal_pre_stride_defined (hKernelIdeal := hKernelIdeal) (hReferenceIdeal := hReferenceIdeal) (hPre_stride_defined := hPre_stride_defined)
-- ==== Pre_stride_defined.lean ====
abbrev S64x255x52x52 : Shape := ⟨4, ![64, 255, 52, 52]⟩
abbrev S_ : Shape := ⟨0, ![]⟩

class Facts : Prop where

variable [Facts]

def fn {F : FTy → Type} [FloatOps F] (main_arg0 : FVec F S64x255x52x52 .f32) (main_arg1 : IVec S_ 32) : IVec S_ 1 :=
  let main_c : IVec S_ 32 := constantI S_ 32 0#32
  let main_v0 : IVec S_ 1 := cmpi .ne main_arg1 main_c
  main_v0
-- ==== Kernel.lean ====
abbrev S64x255x52x52 : Shape := ⟨4, ![64, 255, 52, 52]⟩
abbrev S_ : Shape := ⟨0, ![]⟩
abbrev S3x2 : Shape := ⟨2, ![3, 2]⟩
abbrev S3x81 : Shape := ⟨2, ![3, 81]⟩
abbrev S3x4 : Shape := ⟨2, ![3, 4]⟩
abbrev S3x85 : Shape := ⟨2, ![3, 85]⟩
abbrev S3x1x85 : Shape := ⟨3, ![3, 1, 85]⟩
abbrev S64x8112x85 : Shape := ⟨3, ![64, 8112, 85]⟩
abbrev S2x255x52x52 : Shape := ⟨4, ![2, 255, 52, 52]⟩
abbrev S2x8112x85 : Shape := ⟨3, ![2, 8112, 85]⟩
abbrev S510x2704 : Shape := ⟨2, ![510, 2704]⟩
abbrev S85x2704 : Shape := ⟨2, ![85, 2704]⟩
abbrev S2704x85 : Shape := ⟨2, ![2704, 85]⟩
abbrev S1x1x85 : Shape := ⟨3, ![1, 1, 85]⟩
abbrev S1x85 : Shape := ⟨2, ![1, 85]⟩
abbrev S1x2704x85 : Shape := ⟨3, ![1, 2704, 85]⟩

abbrev nBuf : Space → Nat
  | .hbm => 13
  | .vmem => 5
  | .smem => 0
  | _ => 0

abbrev bufTy : (tb : Table) → Fin (tcTables nBuf tb) → BufTy
  | .hbm, ⟨0, _⟩ => ⟨S64x255x52x52, .f32⟩
  | .hbm, ⟨1, _⟩ => ⟨S_, .i32⟩
  | .hbm, ⟨2, _⟩ => ⟨S3x2, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S3x81, .f32⟩
  | .hbm, ⟨8, _⟩ => ⟨S3x2, .f32⟩
  | .hbm, ⟨9, _⟩ => ⟨S3x4, .f32⟩
  | .hbm, ⟨10, _⟩ => ⟨S3x85, .f32⟩
  | .hbm, ⟨11, _⟩ => ⟨S3x1x85, .f32⟩
  | .hbm, ⟨12, _⟩ => ⟨S64x8112x85, .f32⟩
  | .local _ .vmem, ⟨0, _⟩ => ⟨S2x255x52x52, .f32⟩
  | .local _ .vmem, ⟨1, _⟩ => ⟨S2x255x52x52, .f32⟩
  | .local _ .vmem, ⟨2, _⟩ => ⟨S3x1x85, .f32⟩
  | .local _ .vmem, ⟨3, _⟩ => ⟨S2x8112x85, .f32⟩
  | .local _ .vmem, ⟨4, _⟩ => ⟨S2x8112x85, .f32⟩
  | _, _ => ⟨S64x255x52x52, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x255x52x52 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1x85 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x8112x85 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S64x255x52x52 : Shape := ⟨4, ![64, 255, 52, 52]⟩
abbrev S_ : Shape := ⟨0, ![]⟩
abbrev S3x2 : Shape := ⟨2, ![3, 2]⟩
abbrev S64x3x85x52x52 : Shape := ⟨5, ![64, 3, 85, 52, 52]⟩
abbrev S64x3x52x52x85 : Shape := ⟨5, ![64, 3, 52, 52, 85]⟩
abbrev S64x3x52x52x1 : Shape := ⟨5, ![64, 3, 52, 52, 1]⟩
abbrev S64x3x52x52 : Shape := ⟨4, ![64, 3, 52, 52]⟩
abbrev S64x3x52x52x80 : Shape := ⟨5, ![64, 3, 52, 52, 80]⟩
abbrev S52 : Shape := ⟨1, ![52]⟩
abbrev S1x1x1x52 : Shape := ⟨4, ![1, 1, 1, 52]⟩
abbrev S1x1x52x1 : Shape := ⟨4, ![1, 1, 52, 1]⟩
abbrev S3x1 : Shape := ⟨2, ![3, 1]⟩
abbrev S3 : Shape := ⟨1, ![3]⟩
abbrev S1x3x1x1 : Shape := ⟨4, ![1, 3, 1, 1]⟩
abbrev S64x3x52x52x4 : Shape := ⟨5, ![64, 3, 52, 52, 4]⟩
abbrev S64x8112x4 : Shape := ⟨3, ![64, 8112, 4]⟩
abbrev S64x8112x1 : Shape := ⟨3, ![64, 8112, 1]⟩
abbrev S64x8112x80 : Shape := ⟨3, ![64, 8112, 80]⟩
abbrev S64x8112x85 : Shape := ⟨3, ![64, 8112, 85]⟩

abbrev nBuf : Space → Nat
  | .hbm => 84
  | .vmem => 0
  | .smem => 0
  | _ => 0

abbrev bufTy : (tb : Table) → Fin (tcTables nBuf tb) → BufTy
  | .hbm, ⟨0, _⟩ => ⟨S64x255x52x52, .f32⟩
  | .hbm, ⟨1, _⟩ => ⟨S_, .i32⟩
  | .hbm, ⟨2, _⟩ => ⟨S3x2, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S3x2, .f32⟩
  | .hbm, ⟨7, _⟩ => ⟨S3x2, .f32⟩
  | .hbm, ⟨8, _⟩ => ⟨S64x3x85x52x52, .f32⟩
  | .hbm, ⟨9, _⟩ => ⟨S64x3x52x52x85, .f32⟩
  | .hbm, ⟨10, _⟩ => ⟨S64x3x52x52x1, .f32⟩
  | .hbm, ⟨11, _⟩ => ⟨S64x3x52x52, .f32⟩
  | .hbm, ⟨12, _⟩ => ⟨S64x3x52x52, .f32⟩
  | .hbm, ⟨13, _⟩ => ⟨S64x3x52x52, .f32⟩
  | .hbm, ⟨14, _⟩ => ⟨S_, .f32⟩
  | .hbm, ⟨15, _⟩ => ⟨S64x3x52x52, .f32⟩
  | .hbm, ⟨16, _⟩ => ⟨S64x3x52x52, .f32⟩
  | .hbm, ⟨17, _⟩ => ⟨S_, .f32⟩
  | .hbm, ⟨18, _⟩ => ⟨S64x3x52x52, .f32⟩
  | .hbm, ⟨19, _⟩ => ⟨S64x3x52x52, .f32⟩
  | .hbm, ⟨20, _⟩ => ⟨S64x3x52x52x1, .f32⟩
  | .hbm, ⟨21, _⟩ => ⟨S64x3x52x52, .f32⟩
  | .hbm, ⟨22, _⟩ => ⟨S64x3x52x52, .f32⟩
  | .hbm, ⟨23, _⟩ => ⟨S64x3x52x52, .f32⟩
  | .hbm, ⟨24, _⟩ => ⟨S_, .f32⟩
  | .hbm, ⟨25, _⟩ => ⟨S64x3x52x52, .f32⟩
  | .hbm, ⟨26, _⟩ => ⟨S64x3x52x52, .f32⟩
  | .hbm, ⟨27, _⟩ => ⟨S_, .f32⟩
  | .hbm, ⟨28, _⟩ => ⟨S64x3x52x52, .f32⟩
  | .hbm, ⟨29, _⟩ => ⟨S64x3x52x52, .f32⟩
  | .hbm, ⟨30, _⟩ => ⟨S64x3x52x52x1, .f32⟩
  | .hbm, ⟨31, _⟩ => ⟨S64x3x52x52, .f32⟩
  | .hbm, ⟨32, _⟩ => ⟨S64x3x52x52x1, .f32⟩
  | .hbm, ⟨33, _⟩ => ⟨S64x3x52x52, .f32⟩
  | .hbm, ⟨34, _⟩ => ⟨S64x3x52x52x1, .f32⟩
  | .hbm, ⟨35, _⟩ => ⟨S64x3x52x52, .f32⟩
  | .hbm, ⟨36, _⟩ => ⟨S64x3x52x52, .f32⟩
  | .hbm, ⟨37, _⟩ => ⟨S64x3x52x52, .f32⟩
  | .hbm, ⟨38, _⟩ => ⟨S_, .f32⟩
  | .hbm, ⟨39, _⟩ => ⟨S64x3x52x52, .f32⟩
  | .hbm, ⟨40, _⟩ => ⟨S64x3x52x52, .f32⟩
  | .hbm, ⟨41, _⟩ => ⟨S_, .f32⟩
  | .hbm, ⟨42, _⟩ => ⟨S64x3x52x52, .f32⟩
  | .hbm, ⟨43, _⟩ => ⟨S64x3x52x52, .f32⟩
  | .hbm, ⟨44, _⟩ => ⟨S64x3x52x52x80, .f32⟩
  | .hbm, ⟨45, _⟩ => ⟨S64x3x52x52x80, .f32⟩
  | .hbm, ⟨46, _⟩ => ⟨S64x3x52x52x80, .f32⟩
  | .hbm, ⟨47, _⟩ => ⟨S_, .f32⟩
  | .hbm, ⟨48, _⟩ => ⟨S64x3x52x52x80, .f32⟩
  | .hbm, ⟨49, _⟩ => ⟨S64x3x52x52x80, .f32⟩
  | .hbm, ⟨50, _⟩ => ⟨S_, .f32⟩
  | .hbm, ⟨51, _⟩ => ⟨S64x3x52x52x80, .f32⟩
  | .hbm, ⟨52, _⟩ => ⟨S64x3x52x52x80, .f32⟩
  | .hbm, ⟨53, _⟩ => ⟨S52, .f32⟩
  | .hbm, ⟨54, _⟩ => ⟨S1x1x1x52, .f32⟩
  | .hbm, ⟨55, _⟩ => ⟨S52, .f32⟩
  | .hbm, ⟨56, _⟩ => ⟨S1x1x52x1, .f32⟩
  | .hbm, ⟨57, _⟩ => ⟨S3x1, .f32⟩
  | .hbm, ⟨58, _⟩ => ⟨S3, .f32⟩
  | .hbm, ⟨59, _⟩ => ⟨S1x3x1x1, .f32⟩
  | .hbm, ⟨60, _⟩ => ⟨S3x1, .f32⟩
  | .hbm, ⟨61, _⟩ => ⟨S3, .f32⟩
  | .hbm, ⟨62, _⟩ => ⟨S1x3x1x1, .f32⟩
  | .hbm, ⟨63, _⟩ => ⟨S64x3x52x52, .f32⟩
  | .hbm, ⟨64, _⟩ => ⟨S64x3x52x52, .f32⟩
  | .hbm, ⟨65, _⟩ => ⟨S64x3x52x52, .f32⟩
  | .hbm, ⟨66, _⟩ => ⟨S64x3x52x52, .f32⟩
  | .hbm, ⟨67, _⟩ => ⟨S64x3x52x52, .f32⟩
  | .hbm, ⟨68, _⟩ => ⟨S64x3x52x52, .f32⟩
  | .hbm, ⟨69, _⟩ => ⟨S64x3x52x52, .f32⟩
  | .hbm, ⟨70, _⟩ => ⟨S64x3x52x52, .f32⟩
  | .hbm, ⟨71, _⟩ => ⟨S64x3x52x52, .f32⟩
  | .hbm, ⟨72, _⟩ => ⟨S64x3x52x52, .f32⟩
  | .hbm, ⟨73, _⟩ => ⟨S64x3x52x52x1, .f32⟩
  | .hbm, ⟨74, _⟩ => ⟨S64x3x52x52x1, .f32⟩
  | .hbm, ⟨75, _⟩ => ⟨S64x3x52x52x1, .f32⟩
  | .hbm, ⟨76, _⟩ => ⟨S64x3x52x52x1, .f32⟩
  | .hbm, ⟨77, _⟩ => ⟨S64x3x52x52x4, .f32⟩
  | .hbm, ⟨78, _⟩ => ⟨S64x8112x4, .f32⟩
  | .hbm, ⟨79, _⟩ => ⟨S64x8112x4, .f32⟩
  | .hbm, ⟨80, _⟩ => ⟨S64x8112x4, .f32⟩
  | .hbm, ⟨81, _⟩ => ⟨S64x8112x1, .f32⟩
  | .hbm, ⟨82, _⟩ => ⟨S64x8112x80, .f32⟩
  | .hbm, ⟨83, _⟩ => ⟨S64x8112x85, .f32⟩
  | _, _ => ⟨S64x255x52x52, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩

abbrev nD : Nat := 1
abbrev τ : Topo := Topo.v7x

variable {F : FTy → Type} [FloatOps F]
-- ==== Proof.Decode.lean ====
/-
  What the detection head computes, as one function on extended reals: the value of a cell before scaling, the factor of
  its channel, and the whole result array. Both programs are shown to leave this array.
-/
module

public import Idealize.ShloMosaic.Lib.Pointwise

@[expose] public section

noncomputable section

namespace Cert.Decode

open Idealize.ShloMosaic

/-- The six anchor sizes as float words: row `a` is anchor `a`, its width first, then its height. -/
def anchorWord : Fin 3 → Fin 2 → BitVec 32
  | 0, 0 => 0x41200000#32 | 0, 1 => 0x41500000#32
  | 1, 0 => 0x41800000#32 | 1, 1 => 0x41F00000#32
  | 2, 0 => 0x42040000#32 | 2, 1 => 0x41B80000#32

/-- An anchor's width (`w = 0`) or height (`w = 1`). -/
def anchor (a : Fin 3) (w : Fin 2) : EReal := Ideal.ofBits .f32 (anchorWord a w)

/-- The image's size over the grid's 52 cells: how many pixels one cell spans. -/
def stride (dim : BitVec 32) : EReal := Ideal.div ((dim.toInt : ℝ) : EReal) (Ideal.ofBits .f32 0x42500000#32)

/-- Channel `ch` of a cell at column `col` and row `row`, before scaling: the box's centre is the cell's corner plus a sigmoid
    (channels 0 and 1), its size an exponential (2 and 3), everything else a sigmoid. -/
def cell (v : EReal) (col row ch : ℕ) : EReal :=
  if ch = 0 then Ideal.logistic v + ((col : ℝ) : EReal)
  else if ch = 1 then Ideal.logistic v + ((row : ℝ) : EReal)
  else if ch < 4 then Ideal.exp v
  else Ideal.logistic v

/-- What channel `ch` of anchor `a` is multiplied by: the stride, the anchor's size, or one. -/
def factor (s : EReal) (a : Fin 3) (ch : ℕ) : EReal :=
  if ch < 2 then s
  else if ch = 2 then anchor a 0
  else if ch = 3 then anchor a 1
  else 1

/-- The decoded array: position `p` of an image is anchor `p / 2704`, row `p / 52 % 52`, column `p % 52`. -/
def decoded (x : (⟨4, ![64, 255, 52, 52]⟩ : Shape).Idx → EReal) (s : EReal) (b : Fin 64) (p : Fin 8112) (ch : Fin 85) :
    EReal :=
  cell (x (ix4 b ⟨p.val / 2704 * 85 + ch.val, by omega⟩ ⟨p.val / 52 % 52, by omega⟩ ⟨p.val % 52, by omega⟩))
      (p.val % 52) (p.val / 52 % 52) ch.val
    * factor s ⟨p.val / 2704, by omega⟩ ch.val

/-- A small number's word, read as a float, is the number. -/
theorem float_of_word (n : ℕ) (h : n < 2 ^ 31) :
    FloatOps.sitofp (F := Ideal) .f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

/-! ## The stride is a real number, and not zero where the image has a size -/

/-- The word of 52.0 is the number 52. -/
theorem ofBits_52 : Ideal.ofBits .f32 0x42500000#32 = ((52 : ℝ) : EReal) := by
  simp [Ideal.ofBits, Ideal.ieee, -EReal.coe_mul]
  norm_num

/-- The stride is the real `dim / 52`. -/
theorem stride_eq (dim : BitVec 32) : stride dim = ((dim.toInt / 52 : ℝ) : EReal) := by
  unfold stride
  rw [ofBits_52, Ideal.div, if_neg (by norm_num), ← EReal.coe_inv, ← EReal.coe_mul, div_eq_mul_inv]

/-- An image with a size has a stride that can be divided by and multiplied back. -/
theorem scale_back (e a : EReal) {dim : BitVec 32} (h : dim ≠ 0#32) :
    e * Ideal.div a (stride dim) * stride dim = e * a := by
  have hd : (dim.toInt / 52 : ℝ) ≠ 0 := by
    have : dim.toInt ≠ 0 := fun h0 => h (BitVec.eq_of_toInt_eq (by simpa using h0))
    exact div_ne_zero (by exact_mod_cast this) (by norm_num)
  rw [stride_eq, Ideal.div, if_neg (by exact_mod_cast hd), ← EReal.coe_inv, mul_assoc, mul_assoc, ← EReal.coe_mul,
    inv_mul_cancel₀ hd, EReal.coe_one, mul_one]

end Cert.Decode

end
-- ==== Proof.Block.lean ====
/-
  What one grid step of the kernel writes: its staging block for two images, element by element, from the two images' raw
  predictions and the table of factors.
-/
module

public import proofs.«01_k».proof.Proof.Decode
public import proofs.«01_k».proof.Proof.Gen.KernelIdeal.Value
public import Idealize.ShloMosaic.Lib.Pointwise
public import Idealize.ShloMosaic.Lib.Tactic.WordOmega
public import Idealize.ShloMosaic.Lib.Tactic.IndexArith
public import Idealize.ShloMosaic.Lib.Routing.Words
public import Idealize.ShloMosaic.Lib.Pipeline.ValueKit

@[expose] public section

set_option maxRecDepth 16384

noncomputable section

namespace Cert.KernelIdeal.Decode

open Idealize.ShloMosaic Idealize.SL.Sem Cert.KernelIdeal Cert.KernelIdeal.Gen Cert.Decode
open Idealize.ShloMosaic.Routing (remsi_word divsi_word)

/-! ## Row and column numbers as words -/

/-- The floor-modulus the kernel builds from the signed remainder, of a number that is not negative: the plain remainder. -/
theorem floor_mod (a n : ℕ) (hn : 0 < n) (hn' : n < 2 ^ 31) (c : BitVec 1) (w : BitVec 32) :
    Scalar.select (IntOp.andi (IntOp.xori (IntOp.cmpi .slt (BitVec.ofNat 32 (a % n)) 0#32) 0#1) c) w (BitVec.ofNat 32 (a % n))
      = BitVec.ofNat 32 (a % n) := by
  have h : a % n < 2 ^ 31 := (Nat.mod_lt _ hn).trans hn'
  rw [WordCmp.cmpi_slt_ofNat (by omega) (by omega), decide_eq_false (by omega),
    show IntOp.andi (IntOp.xori (BitVec.ofBool false) 0#1) c = 0#1 from by revert c; decide]
  rfl

/-- The floor-quotient the kernel builds from the signed quotient, of a number that is not negative: the plain quotient. The
    correction by one asks for a sign other than the divisor's and a remainder; zero has the former and not the latter. -/
theorem floor_div (k n : ℕ) (hk : k < 2 ^ 31) (hn : 0 < n) (hn' : n < 2 ^ 31) (w : BitVec 32) :
    Scalar.select
        (IntOp.andi
          (IntOp.cmpi .ne (IntOp.subi (BitVec.setWidth 32 (IntOp.cmpi .sgt (BitVec.ofNat 32 k) 0#32))
            (BitVec.setWidth 32 (IntOp.cmpi .slt (BitVec.ofNat 32 k) 0#32))) 1#32)
          (IntOp.cmpi .ne (BitVec.ofNat 32 (k % n)) 0#32))
        w (BitVec.ofNat 32 (k / n))
      = BitVec.ofNat 32 (k / n) := by
  have h : k % n < 2 ^ 31 := (Nat.mod_lt _ hn).trans hn'
  rw [WordCmp.cmpi_sgt_ofNat (by omega) (by omega), WordCmp.cmpi_slt_ofNat (by omega) (by omega),
    WordCmp.cmpi_ne_ofNat (by omega) (by omega), decide_eq_false (p := k < 0) (by omega)]
  rcases Nat.eq_zero_or_pos k with rfl | hp
  · rw [Nat.zero_mod, decide_eq_false (p := 0 < 0) (by omega), decide_eq_false (p := 0 ≠ 0) (by omega)]; rfl
  · rw [decide_eq_true hp]
    cases decide (k % n ≠ 0) <;> rfl

/-! ## The value array -/

/-- The channel number of a row: its remainder by 85. -/
theorem channel_at (r : Fin 510) (k : Fin 2704) : k0_pay5 (ix2 r k) = BitVec.ofNat 32 (r.val % 85) := by
  unfold k0_pay5
  pointwise
  rw [show Scalar.select (Scalar.cmpi .eq 85#32 0#32) 1#32 85#32 = BitVec.ofNat 32 85 from by decide,
    remsi_word _ (by omega) (by omega) (by omega)]
  exact floor_mod r.val 85 (by omega) (by omega) _ _

/-- The column of a cell, as a float. -/
theorem column_at (r : Fin 510) (k : Fin 2704) : k0_pay6 (F := Ideal) (ix2 r k) = (((k.val % 52 : ℕ) : ℝ) : EReal) := by
  unfold k0_pay6
  pointwise
  rw [show Scalar.select (Scalar.cmpi .eq 52#32 0#32) 1#32 52#32 = BitVec.ofNat 32 52 from by decide,
    remsi_word _ (by omega) (by omega) (by omega)]
  exact (congrArg _ (floor_mod k.val 52 (by omega) (by omega) _ _)).trans (float_of_word _ (by omega))

/-- The truncating quotient that the kernel starts the row number from. -/
theorem quotient_at (r : Fin 510) (k : Fin 2704) : k0_pay7 (ix2 r k) = BitVec.ofNat 32 (k.val / 52) := by
  unfold k0_pay7
  pointwise
  exact divsi_word _ (by omega) (by omega) (by omega)

/-- The value array before scaling: row `r` is channel `r % 85`, position `k` the cell at row `k / 52`, column `k % 52`. -/
theorem value_at (x0 : Vec Ideal S2x255x52x52 .f32) (x1 : Vec Ideal S3x1x85 .f32) (r : Fin 510) (k : Fin 2704) :
    k0_pay21 x0 x1 (ix2 r k) = cell (x0 (ix4 ⟨r.val / 255, by omega⟩ ⟨r.val % 255, by omega⟩ ⟨k.val / 52, by omega⟩
      ⟨k.val % 52, by omega⟩)) (k.val % 52) (k.val / 52) (r.val % 85) := by
  unfold k0_pay21 k0_pay16 k0_pay17 k0_pay15
  pointwise [k0_pay8, k0_pay3, k0_pay4, k0_pay2]
  unfold k0_pay18 k0_pay19 k0_pay20
  have hr : r.val % 85 < 85 := Nat.mod_lt _ (by omega)
  rw [channel_at, column_at, quotient_at,
    show Scalar.subi (Scalar.extui (Scalar.cmpi .sgt 52#32 0#32)) (Scalar.extui (Scalar.cmpi .slt 52#32 0#32)) = 1#32 from
      by decide,
    show IntOp.remsi ArithUnit.vector (BitVec.ofNat 32 k.val) 52#32 = BitVec.ofNat 32 (k.val % 52) from
      remsi_word _ (by omega) (by omega) (by omega),
    floor_div k.val 52 (by omega) (by omega) (by omega), float_of_word _ (by omega),
    WordCmp.cmpi_slt_ofNat (by omega) (by omega), WordCmp.cmpi_slt_ofNat (by omega) (by omega),
    WordCmp.cmpi_eq_ofNat (by omega) (by omega), WordCmp.select_decide, WordCmp.select_decide, WordCmp.select_decide]
  unfold cell
  generalize r.val % 85 = ch at *
  by_cases h0 : ch = 0
  · simp [h0]
  by_cases h1 : ch = 1
  · simp [h1]
  have h2 : ¬ ch < 2 := by omega
  simp only [h0, h1, h2, if_false]

/-! ## One stored tile -/

/-- A tile: 85 rows of the value array from row `o`, transposed, times one row of factors. -/
def tile (o : ℕ) (h : S510x2704.Slices ![o, 0] S85x2704) (v : FVec Ideal S510x2704 .f32) (w : Vec Ideal S1x1x85 .f32) :
    FVec Ideal S1x2704x85 .f32 :=
  shapeCast S1x2704x85
    (mulf (transpose S2704x85 [1, 0] (extractStridedSlice S85x2704 ![o, 0] v h) transposes_S85x2704_p1_0_S2704x85)
      (broadcastTo S2704x85 (shapeCast S1x85 w shapeCasts_S1x1x85_S1x85) broadcasts_S1x85_S2704x85))
    shapeCasts_S2704x85_S1x2704x85

/-- The block of two images in closed form: position `q` of image `n` is anchor `q / 2704`, row `q / 52 % 52`, column `q % 52`. -/
def block (x0 : Vec Ideal S2x255x52x52 .f32) (x1 : Vec Ideal S3x1x85 .f32) (n : Fin 2) (q : Fin 8112) (ch : Fin 85) : EReal :=
  cell (x0 (ix4 n ⟨q.val / 2704 * 85 + ch.val, by omega⟩ ⟨q.val / 52 % 52, by omega⟩ ⟨q.val % 52, by omega⟩))
      (q.val % 52) (q.val / 52 % 52) ch.val
    * x1 (ix3 ⟨q.val / 2704, by omega⟩ 0 ch)

/-- Every tile is the block's part under the rectangle it is stored to: image `n`, anchor `a`. -/
theorem tile_eq (x0 : Vec Ideal S2x255x52x52 .f32) (x1 : Vec Ideal S3x1x85 .f32) (n a o p : ℕ) (hn : n < 2) (ha : a < 3)
    (ho : o = (3 * n + a) * 85) (hp : p = 2704 * a) (h : S510x2704.Slices ![o, 0] S85x2704)
    (hw : ∀ i, ![a, 0, 0] i + S1x1x85.size i ≤ S3x1x85.size i)
    (hr : ∀ i, ![n, p, 0] i + S1x2704x85.size i ≤ S2x8112x85.size i) (z : S1x2704x85.Idx) :
    tile o h (k0_pay21 x0 x1) (View.ld x1 (Rect.unit (s := S3x1x85) ![a, 0, 0] S1x1x85.size hw)) z
      = (fun y : S2x8112x85.Idx => block x0 x1 (y 0) (y 1) (y 2))
          ((Rect.unit (s := S2x8112x85) ![n, p, 0] S1x2704x85.size hr).emb z) := by
  idx_vars z
  have hz : (Rect.unit (s := S2x8112x85) ![n, p, 0] S1x2704x85.size hr).emb (ix3 z0 z1 z2)
      = ix3 ⟨n, hn⟩ ⟨p + z1.val, by omega⟩ z2 := by
    blk_ext
  rw [hz]
  unfold tile block
  pointwise
  rw [value_at]
  have e0 : (o + z2.val) / 255 = n := by omega
  have e1 : (o + z2.val) % 255 = (p + z1.val) / 2704 * 85 + z2.val := by omega
  have e2 : (o + z2.val) % 85 = z2.val := by omega
  have e3 : (p + z1.val) / 52 % 52 = z1.val / 52 := by omega
  have e4 : (p + z1.val) % 52 = z1.val % 52 := by omega
  have e5 : (p + z1.val) / 2704 = a := by omega
  simp only [e0, e1, e2, e3, e4, e5]

/-- What a grid step leaves in its staging block. -/
theorem out_eq (x0 : Vec Ideal S2x255x52x52 .f32) (x1 : Vec Ideal S3x1x85 .f32) (y : S2x8112x85.Idx) :
    out0_2 x0 x1 y = block x0 x1 (y 0) (y 1) (y 2) := by
  unfold out0_2
  refine View.canon_apply_of_pieces (Val := Elt Ideal) (e := .f32)
    (fun y : S2x8112x85.Idx => block x0 x1 (y 0) (y 1) (y 2)) _ ?_ y (cover0_2 _ _ _ _ _ _ y)
  simp only [List.forall_mem_cons]
  refine ⟨?_, ?_, ?_, ?_, ?_, ?_, by simp⟩
  · exact tile_eq x0 x1 1 2 425 5408 (by omega) (by omega) rfl rfl _ _ _
  · exact tile_eq x0 x1 1 1 340 2704 (by omega) (by omega) rfl rfl _ _ _
  · exact tile_eq x0 x1 1 0 255 0 (by omega) (by omega) rfl rfl _ _ _
  · exact tile_eq x0 x1 0 2 170 5408 (by omega) (by omega) rfl rfl _ _ _
  · exact tile_eq x0 x1 0 1 85 2704 (by omega) (by omega) rfl rfl _ _ _
  · exact tile_eq x0 x1 0 0 0 0 (by omega) (by omega) rfl rfl _ _ _

end Cert.KernelIdeal.Decode

end
-- ==== Proof.Array.lean ====
/-
  The kernel's result array: the table of factors its host lines prepare, then the 32 blocks of two images put together.
-/
module

public import proofs.«01_k».proof.Proof.Block
public import Idealize.ShloMosaic.Lib.StableHlo.ReadAt

@[expose] public section

set_option maxRecDepth 16384

noncomputable section

namespace Cert.KernelIdeal.Decode

open Idealize.ShloMosaic Idealize.ShloMosaic.TcCoe Idealize.SL.Sem Cert.KernelIdeal Cert.KernelIdeal.Gen Cert.Decode

variable (m : (ℓ : Loc nD τ sig) → Buf (Elt Ideal) ℓ)

/-- The literal table of the program is the table of anchors. -/
theorem anchor_table (a : Fin 3) (w : Fin 2) : lit0 (S3x2.rowMajor (ix2 a w)) = anchorWord a w := by
  revert a w; decide

/-- The table the kernel's blocks are multiplied by holds each anchor's factors. -/
theorem factors_at (c : Dev nD) (a : Fin 3) (z : Fin 1) (ch : Fin 85) :
    (V m c main_v6 : S3x1x85.Idx → EReal) (ix3 a z ch)
      = factor (stride ((m ((c.tc : Thread nD τ).loc main_arg1) : S_.Idx → BitVec 32) ix0)) a ch.val := by
  unfold_abbrev_sides
  after_results
  clean_types
  pointwise
  unfold factor stride
  by_cases h4 : ch.val < 4
  · rw [dif_pos h4]
    by_cases h2 : ch.val < 2
    · rw [dif_pos h2, if_pos h2]; rfl
    · rw [dif_neg h2, if_neg h2, anchor_table]
      rcases (by omega : ch.val = 2 ∨ ch.val = 3) with h | h <;> simp only [h] <;> rfl
  · rw [dif_neg h4, if_neg (by omega), if_neg (by omega), if_neg (by omega)]

/-- Which block each window stages at a grid point: the point's pair of images, the whole table, the point's pair of results. -/
theorem index_images : ∀ t : Fin cfg0.N, win0_0.index t = ![t.val, 0, 0, 0] := by decide +kernel
theorem index_table : ∀ t : Fin cfg0.N, win0_1.index t = ![0, 0, 0] := by decide +kernel
theorem index_result : ∀ t : Fin cfg0.N, win0_2.index t = ![t.val, 0, 0] := by decide +kernel

/-- A grid point is one of 32, so a pair's images are among the 64. -/
theorem point_lt (t : Fin cfg0.N) (n : Fin 2) : 2 * t.val + n.val < 64 := by
  have h : t.val < 32 := lt_of_lt_of_eq t.isLt N_0
  omega

/-- The images staged at point `t` are images `2 t` and `2 t + 1` of the first argument. -/
theorem images_at (c : Dev nD) (t : Fin cfg0.N) (n : Fin 2) (r : Fin 255) (u v : Fin 52) :
    (iblk m c 0 t : S2x255x52x52.Idx → EReal) (ix4 n r u v)
      = m ((c.tc : Thread nD τ).loc main_arg0) (ix4 ⟨2 * t.val + n.val, point_lt t n⟩ r u v) := by
  rw [← V_main_arg0 m c]
  blk_ext [iblk, index_images t]

/-- The table staged at every point is the whole table. -/
theorem table_at (c : Dev nD) (t : Fin cfg0.N) (a : Fin 3) (z : Fin 1) (ch : Fin 85) :
    (iblk m c 1 t : S3x1x85.Idx → EReal) (ix3 a z ch) = V m c main_v6 (ix3 a z ch) := by
  blk_ext [iblk, index_table t]

/-- The result array after the last grid point is the decoded array of the arguments. -/
theorem final (c : Dev nD) : (dats m 0 c).arrAt 2 cfg0.N = fun y : S64x8112x85.Idx =>
    decoded (m ((c.tc : Thread nD τ).loc main_arg0)) (stride ((m ((c.tc : Thread nD τ).loc main_arg1) : S_.Idx → BitVec 32) ix0))
      (y 0) (y 1) (y 2) := by
  refine (dats m 0 c).arrAt_eq_of_covers 2 _ (by decide +kernel) fun t hf y => ?_
  blk_simp
  rw [after0_2]
  change S2x8112x85.Idx at y
  idx_vars y
  have hy : (win0_2.blk t).view.emb (ix3 y0 y1 y2) = (ix3 ⟨2 * t.val + y0.val, point_lt t y0⟩ y1 y2 : S64x8112x85.Idx) := by
    blk_ext [index_result t]
  rw [hy]
  refine (out_eq _ _ (ix3 y0 y1 y2)).trans ?_
  show block (iblk m c 0 t) (iblk m c 1 t) y0 y1 y2 = decoded _ _ ⟨2 * t.val + y0.val, point_lt t y0⟩ y1 y2
  unfold block decoded
  rw [images_at, table_at, factors_at]

/-- The kernel's run: its result array ends at the decoded array, its arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v7) = (fun y : S64x8112x85.Idx =>
      decoded (m ((c.tc : Thread nD τ).loc main_arg0)) (stride ((m ((c.tc : Thread nD τ).loc main_arg1) : S_.Idx → BitVec 32) ix0))
        (y 0) (y 1) (y 2))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.KernelIdeal.Decode

end
-- ==== Proof.Ref.lean ====
/-
  The reference's result array, read at an index: where the image has a size, it is the decoded array.
-/
module

public import proofs.«01_k».proof.Proof.Decode
public import proofs.«01_k».proof.Proof.Gen.ReferenceIdeal.Run
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Decode

open Idealize.ShloMosaic Idealize.SL.Sem Cert.ReferenceIdeal Cert.Decode

variable (m : (ℓ : Loc nD τ sig) → Buf (Elt Ideal) ℓ)

/-- The literal table of the program is the table of anchors. -/
theorem anchor_table (a : Fin 3) (w : Fin 2) : lit0 (S3x2.rowMajor (ix2 a w)) = anchorWord a w := by
  revert a w; decide

/-- The reference writes a sigmoid as `1 / (1 + exp (-v))`, which is what a sigmoid is. -/
theorem sigmoid_eq (v : EReal) : Ideal.div 1 (1 + Ideal.exp (-v)) = Ideal.logistic v := rfl

/-- The reference's channels, laid end to end: the four box channels times the stride, the confidence, the classes. The box's size is
    an anchor divided by the stride and multiplied back, which the image's size being nonzero allows. -/
theorem channels (x : S64x255x52x52.Idx → EReal) (d : BitVec 32) (hd : d ≠ 0#32) (b : Fin 64) (p : Fin 8112) (ch : Fin 85) :
    (if h : ch.val < 4 then
      (if h₁ : ch.val < 1 then
        Ideal.logistic (x (ix4 b ⟨p.val / 2704 * 85, by omega⟩ ⟨p.val / 52 % 52, by omega⟩ ⟨p.val % 52, by omega⟩))
          + (((p.val % 52 : ℕ) : ℝ) : EReal)
      else if h₂ : ch.val - 1 < 1 then
        Ideal.logistic (x (ix4 b ⟨p.val / 2704 * 85 + 1, by omega⟩ ⟨p.val / 52 % 52, by omega⟩ ⟨p.val % 52, by omega⟩))
          + (((p.val / 52 % 52 : ℕ) : ℝ) : EReal)
      else if h₃ : ch.val - 1 - 1 < 1 then
        Ideal.exp (x (ix4 b ⟨p.val / 2704 * 85 + 2, by omega⟩ ⟨p.val / 52 % 52, by omega⟩ ⟨p.val % 52, by omega⟩))
          * Ideal.div (Ideal.ofBits .f32 (anchorWord ⟨p.val / 2704, by omega⟩ 0)) (stride d)
      else
        Ideal.exp (x (ix4 b ⟨p.val / 2704 * 85 + 3, by omega⟩ ⟨p.val / 52 % 52, by omega⟩ ⟨p.val % 52, by omega⟩))
          * Ideal.div (Ideal.ofBits .f32 (anchorWord ⟨p.val / 2704, by omega⟩ 1)) (stride d)) * stride d
    else if h₄ : ch.val - 4 < 1 then
      Ideal.logistic (x (ix4 b ⟨p.val / 2704 * 85 + 4, by omega⟩ ⟨p.val / 52 % 52, by omega⟩ ⟨p.val % 52, by omega⟩))
    else
      Ideal.logistic (x (ix4 b ⟨p.val / 2704 * 85 + (5 + (ch.val - 4 - 1)), by omega⟩ ⟨p.val / 52 % 52, by omega⟩
        ⟨p.val % 52, by omega⟩)))
      = decoded x (stride d) b p ch := by
  obtain ⟨ch, hch⟩ := ch
  unfold decoded cell factor anchor
  rcases (by omega : ch = 0 ∨ ch = 1 ∨ ch = 2 ∨ ch = 3 ∨ ch = 4 ∨ 5 ≤ ch) with rfl | rfl | rfl | rfl | rfl | h5
  · rfl
  · rfl
  · exact scale_back _ _ hd
  · exact scale_back _ _ hd
  · exact (mul_one _).symm
  · have h : 5 + (ch - 4 - 1) = ch := by omega
    rw [dif_neg (by show ¬ ch < 4; omega), dif_neg (by show ¬ ch - 4 < 1; omega), if_neg (by show ¬ ch = 0; omega),
      if_neg (by show ¬ ch = 1; omega), if_neg (by show ¬ ch < 4; omega), if_neg (by show ¬ ch < 2; omega),
      if_neg (by show ¬ ch = 2; omega), if_neg (by show ¬ ch = 3; omega), mul_one]
    simp only [h]

/-- The reference's result at image `b`, position `p`, channel `ch`. -/
theorem result_at (c : Dev nD) (hd : (m ((c.tc : Thread nD τ).loc main_arg1) : S_.Idx → BitVec 32) ix0 ≠ 0#32)
    (b : Fin 64) (p : Fin 8112) (ch : Fin 85) :
    Value.res_main_v71 m c (ix3 b p ch)
      = decoded (m ((c.tc : Thread nD τ).loc main_arg0))
          (stride ((m ((c.tc : Thread nD τ).loc main_arg1) : S_.Idx → BitVec 32) ix0)) b p ch := by
  have hr := channels (m ((c.tc : Thread nD τ).loc main_arg0)) _ hd b p ch
  obtain ⟨r, h⟩ : ∃ r, decoded (m ((c.tc : Thread nD τ).loc main_arg0))
    (stride ((m ((c.tc : Thread nD τ).loc main_arg1) : S_.Idx → BitVec 32) ix0)) b p ch = r := ⟨_, rfl⟩
  rw [h] at hr ⊢
  unfold Value.res_main_v71
  clean_types
  pointwise
  have hs : Ideal.div (FloatOps.sitofp (F := Ideal) .f32 (m ((c.tc : Thread nD τ).loc main_arg1) ix0))
    (Ideal.ofBits .f32 0x42500000#32) = stride (m ((c.tc : Thread nD τ).loc main_arg1) ix0) := rfl
  have e1 := float_of_word (p.val % 52) (by omega)
  have e2 := float_of_word (p.val / 52 % 52) (by omega)
  simp only [sigmoid_eq, anchor_table, hs, e1, e2]
  exact hr

end Cert.ReferenceIdeal.Decode

end
-- ==== Proof.lean ====
/-
  The proof of the certificate's claim. The kernel and its idealized program run, leave their arguments alone and end quiescent:
  the generated frames. The reference does too: its generated run. The idealized program is the kernel's own, unchanged. And over
  the extended reals kernel and reference leave one array, `Cert.Decode.decoded` of the arguments: Proof/Array.lean shows it of the
  kernel, Proof/Ref.lean of the reference, and `same_result` puts the two together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import Idealize.ShloMosaic.Adequacy
public import Idealize.ShloMosaic.Init
public import proofs.«01_k».proof.Proof.Array
public import proofs.«01_k».proof.Proof.Ref
public import Idealize.ShloMosaic.Lib.Quiescent

@[expose] public section

noncomputable section

namespace Cert.Proof

open Idealize.ShloMosaic Idealize.SL.Sem Cert.Decode

/-- The reference runs, leaves its arguments alone, and, since it declares no semaphore, ends with every counter at zero. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ fun r => (∀ c : Dev ReferenceIdeal.nD,
        r.2.mem ((c.tc : Thread ReferenceIdeal.nD ReferenceIdeal.τ).loc ReferenceIdeal.main_arg0)
          = m ((c.tc : Thread ReferenceIdeal.nD ReferenceIdeal.τ).loc ReferenceIdeal.main_arg0)
        ∧ r.2.mem ((c.tc : Thread ReferenceIdeal.nD ReferenceIdeal.τ).loc ReferenceIdeal.main_arg1)
          = m ((c.tc : Thread ReferenceIdeal.nD ReferenceIdeal.τ).loc ReferenceIdeal.main_arg1))
      ∧ r.2.sem = fun _ => 0 :=
  (θ_run ReferenceIdeal.defs _ _).mono (fun r h => ⟨fun c => (h c).2, sem_eq_zero_of_no_sems (by decide) r.2⟩)
    (ReferenceIdeal.Value.run (F := Ideal) m g)

/-- The predicate's program states no side condition. -/
theorem pre_facts : Cert.Pre_stride_defined.Facts := ⟨⟩

/-- What the precondition says of the image's size: it is not zero. -/
theorem size_ne_zero [Cert.Pre_stride_defined.Facts]
    (m : (ℓ : Loc KernelIdeal.nD KernelIdeal.τ KernelIdeal.sig) → Buf (Elt Ideal) ℓ)
    (h : Cert.Pre_KernelIdeal_stride_defined m) (c : Dev KernelIdeal.nD) :
    (m ((c.tc : Thread KernelIdeal.nD KernelIdeal.τ).loc KernelIdeal.main_arg1) : KernelIdeal.S_.Idx → BitVec 32) ix0
      ≠ 0#32 := by
  intro h0
  have h1 : IntOp.cmpi .ne
      ((m ((c.tc : Thread KernelIdeal.nD KernelIdeal.τ).loc KernelIdeal.main_arg1) : KernelIdeal.S_.Idx → BitVec 32) ix0)
      0#32 = 1#1 := congrFun (h c) ix0
  rw [h0] at h1
  exact absurd h1 (by decide)

/-- Over the extended reals the kernel and the reference leave the same array: both are the decoded array of the arguments. -/
theorem same_result [Cert.Pre_stride_defined.Facts] :
    Cert.algebraic_KernelIdeal_ReferenceIdeal_pre_stride_defined := by
  intro m g m' g' hpre hargs
  refine ⟨_, KernelIdeal.Decode.run m g, ?_⟩
  refine (θ_run ReferenceIdeal.defs _ _).mono (fun r h c => ⟨(h c).1.trans (funext fun y => ?_), (h c).2⟩)
    (ReferenceIdeal.Value.run (F := Ideal) m' g')
  obtain ⟨h0, h1⟩ := hargs c
  have hd := size_ne_zero m hpre c
  rw [← h1] at hd
  change ReferenceIdeal.S64x8112x85.Idx at y
  idx_vars y
  refine (ReferenceIdeal.Decode.result_at m' c hd y0 y1 y2).trans ?_
  rw [h0, h1]

/-- Every claim of the certificate. -/
theorem claim : Cert.Claim :=
  ⟨Cert.Kernel.Gen.facts, Cert.KernelIdeal.Gen.facts, Cert.ReferenceIdeal.Gen.facts, pre_facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    trivial,
    @same_result pre_facts⟩

end Cert.Proof

end
